-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x512x3 : Shape := ⟨4, ![32, 512, 512, 3]⟩
abbrev S32x512 : Shape := ⟨2, ![32, 512]⟩
abbrev S32x8x512 : Shape := ⟨3, ![32, 8, 512]⟩
abbrev S32x512x1 : Shape := ⟨3, ![32, 512, 1]⟩
abbrev S32x512x1x128 : Shape := ⟨4, ![32, 512, 1, 128]⟩
abbrev S32x512x128 : Shape := ⟨3, ![32, 512, 128]⟩
abbrev S32x3x512x512 : Shape := ⟨4, ![32, 3, 512, 512]⟩
abbrev S4x512x128 : Shape := ⟨3, ![4, 512, 128]⟩
abbrev S4x8x512 : Shape := ⟨3, ![4, 8, 512]⟩
abbrev S4x3x512x512 : Shape := ⟨4, ![4, 3, 512, 512]⟩
abbrev S1x512x128 : Shape := ⟨3, ![1, 512, 128]⟩
abbrev S512x128 : Shape := ⟨2, ![512, 128]⟩
abbrev S1x8x512 : Shape := ⟨3, ![1, 8, 512]⟩
abbrev S8x512 : Shape := ⟨2, ![8, 512]⟩
abbrev S512x512 : Shape := ⟨2, ![512, 512]⟩
abbrev S1x1x512x512 : Shape := ⟨4, ![1, 1, 512, 512]⟩

abbrev nBuf : Space → Nat
  | .hbm => 9
  | .vmem => 8
  | .smem => 0
  | _ => 0

abbrev bufTy : (tb : Table) → Fin (tcTables nBuf tb) → BufTy
  | .hbm, ⟨0, _⟩ => ⟨S32x512x512x3, .f32⟩
  | .hbm, ⟨1, _⟩ => ⟨S32x512, .i8⟩
  | .hbm, ⟨2, _⟩ => ⟨S32x8x512, .i8⟩
  | .hbm, ⟨3, _⟩ => ⟨S32x512x1, .i8⟩
  | .hbm, ⟨4, _⟩ => ⟨S32x512x1x128, .i8⟩
  | .hbm, ⟨5, _⟩ => ⟨S32x512x128, .i8⟩
  | .hbm, ⟨6, _⟩ => ⟨S32x3x512x512, .f32⟩
  | .hbm, ⟨7, _⟩ => ⟨S32x3x512x512, .f32⟩
  | .hbm, ⟨8, _⟩ => ⟨S32x512x512x3, .f32⟩
  | .local _ .vmem, ⟨0, _⟩ => ⟨S4x512x128, .i8⟩
  | .local _ .vmem, ⟨1, _⟩ => ⟨S4x512x128, .i8⟩
  | .local _ .vmem, ⟨2, _⟩ => ⟨S4x8x512, .i8⟩
  | .local _ .vmem, ⟨3, _⟩ => ⟨S4x8x512, .i8⟩
  | .local _ .vmem, ⟨4, _⟩ => ⟨S4x3x512x512, .f32⟩
  | .local _ .vmem, ⟨5, _⟩ => ⟨S4x3x512x512, .f32⟩
  | .local _ .vmem, ⟨6, _⟩ => ⟨S4x3x512x512, .f32⟩
  | .local _ .vmem, ⟨7, _⟩ => ⟨S4x3x512x512, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x512x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x3x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x512x512x3 : Shape := ⟨4, ![32, 512, 512, 3]⟩
abbrev S32x6 : Shape := ⟨2, ![32, 6]⟩
abbrev S32 : Shape := ⟨1, ![32]⟩
abbrev S512 : Shape := ⟨1, ![512]⟩
abbrev S_ : Shape := ⟨0, ![]⟩
abbrev S1x1x512 : Shape := ⟨3, ![1, 1, 512]⟩
abbrev S32x6x1 : Shape := ⟨3, ![32, 6, 1]⟩
abbrev S32x6x512 : Shape := ⟨3, ![32, 6, 512]⟩
abbrev S32x512 : Shape := ⟨2, ![32, 512]⟩
abbrev S32x512x1 : Shape := ⟨3, ![32, 512, 1]⟩
abbrev S32x1x512 : Shape := ⟨3, ![32, 1, 512]⟩
abbrev S32x512x512 : Shape := ⟨3, ![32, 512, 512]⟩
abbrev S32x1x1 : Shape := ⟨3, ![32, 1, 1]⟩
abbrev S32x512x512x1 : Shape := ⟨4, ![32, 512, 512, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S32x6, .i32⟩
  | .hbm, ⟨2, _⟩ => ⟨S32x6, .i32⟩
  | .hbm, ⟨3, _⟩ => ⟨S32x6, .i32⟩
  | .hbm, ⟨4, _⟩ => ⟨S32x6, .i32⟩
  | .hbm, ⟨5, _⟩ => ⟨S32, .i32⟩
  | .hbm, ⟨6, _⟩ => ⟨S512, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S1x1x512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S1x1x512, .i32⟩
  | .hbm, ⟨16, _⟩ => ⟨S32x6x1, .i32⟩
  | .hbm, ⟨17, _⟩ => ⟨S32x6x512, .i32⟩
  | .hbm, ⟨18, _⟩ => ⟨S32x6x512, .i32⟩
  | .hbm, ⟨19, _⟩ => ⟨S32x6x512, .i1⟩
  | .hbm, ⟨20, _⟩ => ⟨S32x6x1, .i32⟩
  | .hbm, ⟨21, _⟩ => ⟨S32x6x512, .i32⟩
  | .hbm, ⟨22, _⟩ => ⟨S32x6x512, .i32⟩
  | .hbm, ⟨23, _⟩ => ⟨S32x6x512, .i1⟩
  | .hbm, ⟨24, _⟩ => ⟨S32x6x512, .i1⟩
  | .hbm, ⟨25, _⟩ => ⟨S_, .i1⟩
  | .hbm, ⟨26, _⟩ => ⟨S32x512, .i1⟩
  | .hbm, ⟨27, _⟩ => ⟨S32x6x1, .i32⟩
  | .hbm, ⟨28, _⟩ => ⟨S32x6x512, .i32⟩
  | .hbm, ⟨29, _⟩ => ⟨S32x6x512, .i32⟩
  | .hbm, ⟨30, _⟩ => ⟨S32x6x512, .i1⟩
  | .hbm, ⟨31, _⟩ => ⟨S32x6x1, .i32⟩
  | .hbm, ⟨32, _⟩ => ⟨S32x6x512, .i32⟩
  | .hbm, ⟨33, _⟩ => ⟨S32x6x512, .i32⟩
  | .hbm, ⟨34, _⟩ => ⟨S32x6x512, .i1⟩
  | .hbm, ⟨35, _⟩ => ⟨S32x6x512, .i1⟩
  | .hbm, ⟨36, _⟩ => ⟨S_, .i1⟩
  | .hbm, ⟨37, _⟩ => ⟨S32x512, .i1⟩
  | .hbm, ⟨38, _⟩ => ⟨S32x512x1, .i1⟩
  | .hbm, ⟨39, _⟩ => ⟨S32x1x512, .i1⟩
  | .hbm, ⟨40, _⟩ => ⟨S32x512x512, .i1⟩
  | .hbm, ⟨41, _⟩ => ⟨S32x512x512, .i1⟩
  | .hbm, ⟨42, _⟩ => ⟨S32x512x512, .i1⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S32x1x1, .i1⟩
  | .hbm, ⟨47, _⟩ => ⟨S32x512x512, .i1⟩
  | .hbm, ⟨48, _⟩ => ⟨S32x512x512, .i1⟩
  | .hbm, ⟨49, _⟩ => ⟨S32x512x512x1, .i1⟩
  | .hbm, ⟨50, _⟩ => ⟨S32x512x512x1, .f32⟩
  | .hbm, ⟨51, _⟩ => ⟨S32x512x512x3, .f32⟩
  | .hbm, ⟨52, _⟩ => ⟨S32x512x512x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_c_4 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_5 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_6 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_8 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.GridMask

open Cert.KernelIdeal Cert.KernelIdeal.Gen Idealize.ShloMosaic Idealize.ShloMosaic.TcCoe Idealize.SL.Sem

/-- Four copies of a 512 by 128 array beside each other, read at a place: the array at the column modulo 128. -/
theorem beside_apply (x : S512x128.Idx → BitVec 8) (h w : Fin 512) :
    concatenate S512x512 1 [⟨S512x128, x⟩, ⟨S512x128, x⟩, ⟨S512x128, x⟩, ⟨S512x128, x⟩]
        concatenates_S512x128_S512x128_S512x128_S512x128_S512x512_d1 (ix2 h w)
      = x (ix2 h ⟨w.val % 128, Nat.mod_lt _ (by decide)⟩) := by
  refine concatenate_replicate_apply (t := S512x512) (s₁ := S512x128) 1 4 x
    concatenates_S512x128_S512x128_S512x128_S512x128_S512x512_d1 rfl (ix2 h w) _ rfl fun b hb => ?_
  match b, hb with
  | ⟨0, _⟩, _ => rfl
  | ⟨1, _⟩, hb => exact absurd rfl hb

/-- Sixty-four copies of an 8 by 512 array below each other, read at a place: the array at the row modulo 8. -/
theorem below_apply (x : S8x512.Idx → BitVec 8) (hc) (h w : Fin 512) :
    concatenate S512x512 0 (List.replicate 64 (⟨S8x512, x⟩ : (s : Shape) × (s.Idx → BitVec 8))) hc (ix2 h w)
      = x (ix2 ⟨h.val % 8, Nat.mod_lt _ (by decide)⟩ w) := by
  refine concatenate_replicate_apply (t := S512x512) (s₁ := S8x512) 0 64 x hc rfl (ix2 h w) _ rfl fun b hb => ?_
  match b, hb with
  | ⟨0, _⟩, hb => exact absurd rfl hb
  | ⟨1, _⟩, _ => rfl

/-- One plane of the mask, as the kernel's body computes it from one image's block of row factors and of column
    factors: at row `h` and column `w` it is the «or» of the two factors as a real number. -/
theorem k0_pay1_apply (v0 : Vec Ideal S1x512x128 .i8) (v2 : Vec Ideal S1x8x512 .i8) (h w : Fin 512) :
    k0_pay1 (F := Ideal) v0 v2 (ix2 h w)
      = FloatOps.sitofp .f32 (IntOp.ori (v0 (ix3 0 h ⟨w.val % 128, Nat.mod_lt _ (by decide)⟩))
          (v2 (ix3 0 ⟨h.val % 8, Nat.mod_lt _ (by decide)⟩ w))) := by
  have e1 := beside_apply (shapeCast S512x128 v0 shapeCasts_S1x512x128_S512x128) h w
  have e2 := below_apply (shapeCast S8x512 v2 shapeCasts_S1x8x512_S8x512)
    (show Shape.Concatenates (List.replicate 64 S8x512) S512x512 0 by decide) h w
  have e : k0_pay1 (F := Ideal) v0 v2 (ix2 h w) = FloatOps.sitofp .f32 (IntOp.ori _ _) :=
    congrArg₂ (fun a b => FloatOps.sitofp (F := Ideal) .f32 (IntOp.ori a b)) e1 e2
  rw [e]
  pointwise

/-- What the body stores for one channel of one image, read at a place: the image's number times the mask. -/
theorem k0_pay2_apply (v0 : Vec Ideal S1x512x128 .i8) (v2 : Vec Ideal S1x8x512 .i8)
    (v8 : Vec Ideal S1x1x512x512 .f32) (h w : Fin 512) :
    k0_pay2 (F := Ideal) v0 v2 v8 (ix4 0 0 h w)
      = FloatOps.mulf (F := Ideal) (φ := .f32) (v8 (ix4 0 0 h w))
          (FloatOps.sitofp .f32 (IntOp.ori (v0 (ix3 0 h ⟨w.val % 128, Nat.mod_lt _ (by decide)⟩))
            (v2 (ix3 0 ⟨h.val % 8, Nat.mod_lt _ (by decide)⟩ w)))) := by
  rw [← k0_pay1_apply]
  pointwise [k0_pay2]

/-- The same at any index `x` of the stored block, where the loaded blocks are image `i`'s row factors, column
    factors and channel `c`. -/
theorem stored_apply (x0 : Vec Ideal S4x512x128 .i8) (x1 : Vec Ideal S4x8x512 .i8)
    (x2 : Vec Ideal S4x3x512x512 .f32) (i : Fin 4) (c : Fin 3) (h w : Fin 512)
    (v0 : Vec Ideal S1x512x128 .i8) (v2 : Vec Ideal S1x8x512 .i8) (v8 : Vec Ideal S1x1x512x512 .f32)
    (x : S1x1x512x512.Idx)
    (e0 : ∀ a b, v0 (ix3 0 a b) = x0 (ix3 i a b)) (e1 : ∀ a b, v2 (ix3 0 a b) = x1 (ix3 i a b))
    (e2 : ∀ a b, v8 (ix4 0 0 a b) = x2 (ix4 i c a b))
    (hh : h.val = (x 2).val) (hw : w.val = (x 3).val) :
    k0_pay2 (F := Ideal) v0 v2 v8 x
      = FloatOps.mulf (F := Ideal) (φ := .f32) (x2 (ix4 i c h w))
          (FloatOps.sitofp .f32 (IntOp.ori (x0 (ix3 i h ⟨w.val % 128, Nat.mod_lt _ (by decide)⟩))
            (x1 (ix3 i ⟨h.val % 8, Nat.mod_lt _ (by decide)⟩ w)))) := by
  have hx : x = ix4 0 0 h w := by
    funext a
    match a with
    | ⟨0, _⟩ => exact Subsingleton.elim (α := Fin 1) _ _
    | ⟨1, _⟩ => exact Subsingleton.elim (α := Fin 1) _ _
    | ⟨2, _⟩ => exact Fin.ext hh.symm
    | ⟨3, _⟩ => exact Fin.ext hw.symm
  rw [hx, k0_pay2_apply, e0, e1, e2]

/-- The block of results that the body leaves, from its blocks of row factors, column factors and images. -/
theorem out0_3_apply (x0 : Vec Ideal S4x512x128 .i8) (x1 : Vec Ideal S4x8x512 .i8)
    (x2 : Vec Ideal S4x3x512x512 .f32) (i : Fin 4) (c : Fin 3) (h w : Fin 512) :
    out0_3 (F := Ideal) x0 x1 x2 (ix4 i c h w)
      = FloatOps.mulf (F := Ideal) (φ := .f32) (x2 (ix4 i c h w))
          (FloatOps.sitofp .f32 (IntOp.ori (x0 (ix3 i h ⟨w.val % 128, Nat.mod_lt _ (by decide)⟩))
            (x1 (ix3 i ⟨h.val % 8, Nat.mod_lt _ (by decide)⟩ w)))) := by
  canon_tiles x hx
  all_goals
    rw [ix4_0] at hx0
    rw [ix4_1] at hx1
    refine stored_apply x0 x1 x2 i c h w _ _ _ x ?_ ?_ ?_ hx2 hx3
    all_goals
      intro a b
      refine View.ld_unit_apply_of _ _ _ _ _ _ fun k => ?_
      fin_cases k <;> simp <;> omega

end Cert.GridMask
-- ==== Proof.KernelArray.lean ====
module

public import proofs.«01_k».proof.Proof.Body
public import Idealize.ShloMosaic.Lib.Claim
public import Idealize.ShloMosaic.Lib.StableHlo.ReadAt
public import Idealize.ShloMosaic.Lib.Pipeline.Value

@[expose] public section

set_option maxRecDepth 16384

noncomputable section

namespace Cert.GridMask

open Cert.KernelIdeal Cert.KernelIdeal.Gen Idealize.ShloMosaic Idealize.ShloMosaic.TcCoe Idealize.SL.Sem
open Idealize.ShloMosaic.Pipeline (Dat)

/-- The kernel's constant row factor of image `b` and row `h`. -/
def rowFactor (b : Fin 32) (h : Fin 512) : BitVec 8 := lit0 (S32x512.rowMajor (ix2 b h))

/-- The kernel's constant column factor of image `b` and column `w`, in the copy `r`. -/
def colFactor (b : Fin 32) (r : Fin 8) (w : Fin 512) : BitVec 8 := lit1 (S32x8x512.rowMajor (ix3 b r w))

variable (m : (ℓ : Loc nD τ sig) → Buf (Elt Ideal) ℓ)

/-- The row factors that the pipeline reads: image `b`, row `h`, any of the 128 lanes. -/
theorem entry_rows (c : Dev nD) (b : Fin 32) (h : Fin 512) (l : Fin 128) :
    V m c main_v2 (ix3 b h l) = rowFactor b h := by
  unfold rowFactor
  after_reads_at

/-- The column factors that the pipeline reads: image `b`, any of the eight copies, column `w`. -/
theorem entry_cols (c : Dev nD) (b : Fin 32) (r : Fin 8) (w : Fin 512) :
    V m c main_c_0 (ix3 b r w) = colFactor b r w := by
  unfold colFactor
  after_reads_at

/-- The images that the pipeline reads: the argument with its channels moved before the rows. -/
theorem entry_images (c : Dev nD) (b : Fin 32) (ch : Fin 3) (h w : Fin 512) :
    V m c main_v3 (ix4 b ch h w) = m ((c : Thread nD τ).loc main_arg0) (ix4 b h w ch) := by
  after_reads_at

/-- The result array of the pipeline. -/
def planes (c : Dev nD) : Buf (Elt Ideal) ((c : Thread nD τ).loc main_v4) := fun j =>
  FloatOps.mulf (F := Ideal) (φ := .f32) (m ((c : Thread nD τ).loc main_arg0) (ix4 (j 0) (j 2) (j 3) (j 1)))
    (FloatOps.sitofp .f32 (IntOp.ori (rowFactor (j 0) (j 2))
      (colFactor (j 0) ⟨(j 2).val % 8, Nat.mod_lt _ (by decide)⟩ (j 3))))

/-- Where each window's block lies: block `t` of the images' axis, everything of the other axes. -/
theorem idx : ∀ t, win0_0.index t = ![t.val, 0, 0] ∧ win0_1.index t = ![t.val, 0, 0]
    ∧ win0_2.index t = ![t.val, 0, 0, 0] ∧ win0_3.index t = ![t.val, 0, 0, 0] := by decide +kernel

/-- The block of row factors of point `t`, read at a place. -/
theorem iblk_rows (c : Dev nD) (t : Fin cfg0.N) (i : Fin 4) (h : Fin 512) (l : Fin 128) (b : Fin 32)
    (hb : b.val = t.val * 4 + i.val) :
    iblk m c 0 t (ix3 i h l) = rowFactor b h := by
  refine Eq.trans ?_ (entry_rows m c b h l)
  blk_ext [iblk, (idx t).1]

/-- The block of column factors of point `t`, read at a place. -/
theorem iblk_cols (c : Dev nD) (t : Fin cfg0.N) (i : Fin 4) (r : Fin 8) (w : Fin 512) (b : Fin 32)
    (hb : b.val = t.val * 4 + i.val) :
    iblk m c 1 t (ix3 i r w) = colFactor b r w := by
  refine Eq.trans ?_ (entry_cols m c b r w)
  blk_ext [iblk, (idx t).2.1]

/-- The block of images of point `t`, read at a place. -/
theorem iblk_images (c : Dev nD) (t : Fin cfg0.N) (i : Fin 4) (ch : Fin 3) (h w : Fin 512) (b : Fin 32)
    (hb : b.val = t.val * 4 + i.val) :
    iblk m c 2 t (ix4 i ch h w) = m ((c : Thread nD τ).loc main_arg0) (ix4 b h w ch) := by
  refine Eq.trans ?_ (entry_images m c b ch h w)
  blk_ext [iblk, (idx t).2.2.1]

/-- After the run the pipeline's result array is `planes`. -/
theorem arr_eq (c : Dev nD) : (dats m 0 c).arrAt 3 cfg0.N = planes m c := by
  refine (dats m 0 c).arrAt_eq_of_covers 3 _ (by decide +kernel) fun t hf y => ?_
  blk_simp
  rw [after0_3]
  idx_vars y
  have ht : t.val < 8 := t.isLt
  have e : ((View.whole main_v4).slice (win0_3.rect t)).emb (ix4 y0 y1 y2 y3)
      = ix4 ⟨t.val * 4 + y0.val, by omega⟩ y1 y2 y3 := by
    blk_ext [(idx t).2.2.2]
  rw [out0_3_apply, e]
  exact congrArg₂ (FloatOps.mulf (F := Ideal) (φ := .f32)) (iblk_images m c t y0 _ _ _ _ rfl)
    (congrArg (FloatOps.sitofp (F := Ideal) .f32)
      (congrArg₂ IntOp.ori (iblk_rows m c t y0 _ _ _ rfl) (iblk_cols m c t y0 _ _ _ rfl)))

end Cert.GridMask
-- ==== Proof.KernelValue.lean ====
module

public import proofs.«01_k».proof.Proof.KernelArray

@[expose] public section

set_option maxRecDepth 16384

/-! # What the kernel's program returns -/

noncomputable section

namespace Cert.GridMask

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the host's last operation leaves in the result: the pipeline's array with its channels moved last. -/
theorem tail_apply (c : Dev nD) (b : Fin 32) (h w : Fin 512) (ch : Fin 3) :
    Pipeline.afterTail₀ cfgs (dats m) 0 (V0 m) [hostOps1] c main_v5 (ix4 b h w ch) = planes m c (ix4 b ch h w) := by
  unfold Pipeline.afterTail₀
  have e : Pipeline.withArrays (cfgs 0).spec c (V0 m c) (fun w => (dats m 0 c).arrAt w (cfgs 0).N)
      (Proc.devRef .tc main_v4) = planes m c :=
    (Pipeline.withArrays_arr (cfgs 0).spec (by decide) c (V0 m c) _ 3).trans (arr_eq m c)
  rw [← e]
  generalize Pipeline.withArrays (cfgs 0).spec c (V0 m c) (fun w => (dats m 0 c).arrAt w (cfgs 0).N) = U
  after_reads_at

/-- Every run of the kernel's program ends with its result, at image `b`, row `h`, column `w` and channel `ch`, at the
    image's number times the kernel's factor there, and with the images unchanged. -/
theorem kernel_run : θ_run defs (onTc (τ := τ) (main (F := Ideal))) ⟨m, fun _ => 0, ρ⟩ fun r => ∀ c : Dev nD,
      (∀ (b : Fin 32) (h w : Fin 512) (ch : Fin 3),
        r.2.mem ((c.tc : Thread nD τ).loc main_v5) (ix4 b h w ch) = planes m c (ix4 b ch h w))
      ∧ r.2.mem ((c.tc : Thread nD τ).loc main_arg0) = m ((c.tc : Thread nD τ).loc main_arg0) :=
  (θ_run defs _ _).mono (fun _ h c =>
      ⟨fun b hh w ch => (congrFun ((h c).2 main_v5 (by decide)) _).trans (tail_apply m c b hh w ch),
        ((h c).2 main_arg0 (by decide)).trans (W_main_arg0 m (dats m) c)⟩)
    (run_main m ρ)

end Cert.GridMask

end
-- ==== Proof.Copies.lean ====
module

public import proofs.«01_k».proof.KernelIdeal
public import Mathlib.Tactic.IntervalCases

@[expose] public section

set_option maxRecDepth 16384

/-! # The eight copies of the column factors

The kernel's constant of column factors holds, for every image, the same 512 bytes eight times. -/

namespace Cert.GridMask

open KernelIdeal

set_option maxHeartbeats 4000000 in
/-- Two entries of the column table are equal if they belong to the same image and stand at the same column:
    `m` counts groups of four images, `d` counts the runs of 128 entries inside a group (an image has 32 of
    them, each row of 512 columns has four) and `n` is the place in the run. The second entry is the one in the
    image's first row. -/
theorem lit1t_copy (m d n i i' : Nat) (hm : m < 8) (hd : d < 128)
    (h1 : i / 16384 = m) (h1' : i' / 16384 = m)
    (h2 : i / 128 % 128 = d) (h2' : i' / 128 % 128 = d / 32 * 32 + d % 4)
    (h3 : i % 128 = n) (h3' : i' % 128 = n) : lit1t i = lit1t i' := by
  conv => lhs; whnf
  conv => rhs; whnf
  rw [h1, h1']
  clear h1 h1'
  interval_cases m
  all_goals
    conv => lhs; whnf
    conv => rhs; whnf
    rw [h2, h2']
    clear h2 h2'
    interval_cases d
  all_goals
    conv => lhs; whnf
    conv => rhs; whnf
    rw [h3, h3']
  all_goals rfl

end Cert.GridMask

end
-- ==== Proof.Bands.lean ====
module

public import proofs.«01_k».proof.ReferenceIdeal

@[expose] public section

/-! # The mask of the mathematics

The reference draws, for every image, six bands of rows, six bands of columns and one word that says whether the
image is masked at all. This module says, in plain numbers, which rows and which columns of an image the mask keeps. -/

noncomputable section

namespace Cert.GridMask

open Idealize.ShloMosaic

/-- Position `p` of an axis of image `b` lies in one of the image's six bands: some band `k` has
    `start ≤ p + 256 < end` (the 512 kept positions are the middle of an axis of 1024). -/
def InBand (s e : Fin 192 → BitVec 32) (b : Fin 32) (p : Fin 512) : Prop :=
  ∃ k : Fin 6, (s ⟨b.val * 6 + k.val, by omega⟩).toNat ≤ p.val + 256
    ∧ p.val + 256 < (e ⟨b.val * 6 + k.val, by omega⟩).toNat

instance (s e : Fin 192 → BitVec 32) (b : Fin 32) (p : Fin 512) : Decidable (InBand s e b p) :=
  inferInstanceAs (Decidable (∃ _ : Fin 6, _))

/-- One axis keeps position `p` of image `b`: the image is not masked at all, or `p` lies in a band. -/
def Kept (s e : Fin 192 → BitVec 32) (b : Fin 32) (p : Fin 512) : Prop :=
  ReferenceIdeal.lit4 b = 0#32 ∨ InBand s e b p

instance (s e : Fin 192 → BitVec 32) (b : Fin 32) (p : Fin 512) : Decidable (Kept s e b p) :=
  inferInstanceAs (Decidable (_ ∨ _))

/-- The 0/1 byte that says whether one axis keeps position `p` of image `b`. -/
def keptByte (s e : Fin 192 → BitVec 32) (b : Fin 32) (p : Fin 512) : BitVec 8 :=
  if Kept s e b p then 1#8 else 0#8

end Cert.GridMask

end
-- ==== Proof.RowTable.lean ====
module

public import proofs.«01_k».proof.Proof.Bands
public import proofs.«01_k».proof.KernelIdeal
public import Idealize.ShloMosaic.Lib.Decide
public import Mathlib.Tactic.FinCases

@[expose] public section

set_option maxRecDepth 16384

/-! # The kernel's row factors are the mask's rows -/

noncomputable section

namespace Cert.GridMask

/-- At image `4 g + b` and row `p` the kernel's constant of row factors, 32 images by 512 rows, holds the byte that
    says whether the mask keeps that row: for the four images of group `g`. -/
def RowsAgree (g : Fin 8) : Prop :=
  ∀ (b : Fin 4) (p : Fin 512), KernelIdeal.lit0 ⟨(g.val * 4 + b.val) * 512 + p.val, by omega⟩
    = keptByte ReferenceIdeal.lit0 ReferenceIdeal.lit1 ⟨g.val * 4 + b.val, by omega⟩ p

instance (g : Fin 8) : Decidable (RowsAgree g) := inferInstanceAs (Decidable (∀ _ : Fin 4, ∀ _ : Fin 512, _))

set_option maxHeartbeats 40000000 in
/-- The kernel's row factors are the mask's, in each of the eight groups of four images. -/
theorem row_table : ∀ g : Fin 8, RowsAgree g := by
  intro g
  fin_cases g <;> decide +kernel

end Cert.GridMask

end
-- ==== Proof.ColTable.lean ====
module

public import proofs.«01_k».proof.Proof.Bands
public import proofs.«01_k».proof.KernelIdeal
public import Idealize.ShloMosaic.Lib.Decide
public import Mathlib.Tactic.FinCases

@[expose] public section

set_option maxRecDepth 16384

/-! # The kernel's column factors are the mask's columns -/

noncomputable section

namespace Cert.GridMask

/-- At image `4 g + b`, in the first of the eight copies and at column `p`, the kernel's constant of column factors,
    32 images by 8 copies by 512 columns, holds the byte that says whether the mask keeps that column: for the four
    images of group `g`. -/
def ColsAgree (g : Fin 8) : Prop :=
  ∀ (b : Fin 4) (p : Fin 512), KernelIdeal.lit1 ⟨(g.val * 4 + b.val) * 4096 + p.val, by omega⟩
    = keptByte ReferenceIdeal.lit2 ReferenceIdeal.lit3 ⟨g.val * 4 + b.val, by omega⟩ p

instance (g : Fin 8) : Decidable (ColsAgree g) := inferInstanceAs (Decidable (∀ _ : Fin 4, ∀ _ : Fin 512, _))

set_option maxHeartbeats 40000000 in
/-- The kernel's column factors are the mask's, in each of the eight groups of four images. -/
theorem col_table : ∀ g : Fin 8, ColsAgree g := by
  intro g
  fin_cases g <;> decide +kernel

end Cert.GridMask

end
-- ==== Proof.ReferenceValue.lean ====
module

public import proofs.«01_k».proof.Proof.Bands
public import proofs.«01_k».proof.Proof.Gen.ReferenceIdeal.Run
public import Idealize.ShloMosaic.Lib.Pointwise
public import Idealize.ShloMosaic.Lib.Routing.OpsOrder
public import Idealize.ShloMosaic.Lib.Decide

@[expose] public section

set_option maxRecDepth 16384

/-! # What the reference returns -/

noncomputable section

namespace Cert.GridMask

open Cert.ReferenceIdeal Cert.ReferenceIdeal.Gen Idealize.ShloMosaic Idealize.ShloMosaic.TcCoe Idealize.SL.Sem

/-- The bit by which the reference says that position `p` lies in one of the six bands of image `b`. -/
def bandBit (s e : Fin 192 → BitVec 32) (b : Fin 32) (p : Fin 512) : BitVec 1 :=
  Finset.fold IntOp.ori (0#1)
    (fun k : Fin 6 => IntOp.andi
      (IntOp.cmpi .sge (IntOp.addi (BitVec.ofNat 32 p.val) 256#32) (s (S32x6.rowMajor (ix2 b k))))
      (IntOp.cmpi .slt (IntOp.addi (BitVec.ofNat 32 p.val) 256#32) (e (S32x6.rowMajor (ix2 b k)))))
    Finset.univ

/-- The reference's mask bit of image `b`, row `h` and column `w`. -/
def maskBit (b : Fin 32) (h w : Fin 512) : BitVec 1 :=
  IntOp.ori (IntOp.ori (bandBit lit0 lit1 b h) (bandBit lit2 lit3 b w))
    (IntOp.cmpi .eq (lit4 (S32.rowMajor (ix1 b))) 0#32)

variable (m : (ℓ : Loc nD τ sig) → Buf (Elt Ideal) ℓ) (ρ : Dev nD → PrngReg)

set_option maxHeartbeats 1000000 in
/-- Every run of the reference ends with its result, at image `b`, row `h`, column `w` and channel `ch`, at the image's
    number times the mask bit there, and with the images unchanged. -/
theorem reference_run : θ_run defs (onTc (τ := τ) (main (F := Ideal))) ⟨m, fun _ => 0, ρ⟩ fun r => ∀ c : Dev nD,
      (∀ (b : Fin 32) (h w : Fin 512) (ch : Fin 3),
        r.2.mem ((c.tc : Thread nD τ).loc main_v41) (ix4 b h w ch)
          = FloatOps.mulf (F := Ideal) (φ := .f32) (m ((c.tc : Thread nD τ).loc main_arg0) (ix4 b h w ch))
              (FloatOps.uitofp .f32 (maskBit b h w)))
      ∧ r.2.mem ((c.tc : Thread nD τ).loc main_arg0) = m ((c.tc : Thread nD τ).loc main_arg0) := by
  refine (θ_run defs _ _).mono (fun _ h c => ⟨fun b hh w ch => (congrFun (h c).1 _).trans ?_, (h c).2⟩)
    (Cert.ReferenceIdeal.Value.run (F := Ideal) m ρ)
  clear h
  unfold maskBit bandBit
  generalize lit0 = l0, lit1 = l1, lit2 = l2, lit3 = l3, lit4 = l4
  pointwise

end Cert.GridMask

end
-- ==== Proof.ReferenceMask.lean ====
module

public import proofs.«01_k».proof.Proof.ReferenceValue

@[expose] public section

set_option maxRecDepth 16384

/-! # The reference's mask bit in plain numbers -/

noncomputable section

namespace Cert.GridMask

open Cert.ReferenceIdeal Idealize.ShloMosaic

/-- No band bound of the reference has its sign bit set. -/
theorem bounds_small : ∀ k : Fin 192, ((lit0 k).toNat < 2 ^ 31 ∧ (lit1 k).toNat < 2 ^ 31)
    ∧ (lit2 k).toNat < 2 ^ 31 ∧ (lit3 k).toNat < 2 ^ 31 := by
  decide +kernel

/-- An «or» of two bits is 1 exactly when one of them is. -/
theorem bit_or (c d : BitVec 1) : IntOp.ori c d = 1#1 ↔ c = 1#1 ∨ d = 1#1 := by
  revert c d; decide

/-- An «and» of two bits is 1 exactly when both are. -/
theorem bit_and (c d : BitVec 1) : IntOp.andi c d = 1#1 ↔ c = 1#1 ∧ d = 1#1 := by
  revert c d; decide

/-- The 32-bit word of a position of the 1024-long axis, as a signed number. -/
theorem pos_toInt (p : Fin 512) : (IntOp.addi (BitVec.ofNat 32 p.val) 256#32).toInt = (p.val : Int) + 256 := by
  have e : (IntOp.addi (BitVec.ofNat 32 p.val) 256#32).toNat = p.val + 256 := by
    show (BitVec.ofNat 32 p.val + 256#32).toNat = _
    rw [BitVec.toNat_add, BitVec.toNat_ofNat, BitVec.toNat_ofNat]
    omega
  rw [BitVec.toInt_eq_toNat_of_lt (by omega), e]
  omega

/-- The bit of a comparison for equality is 1 exactly when the two words are equal. -/
theorem word_eq (x y : BitVec 32) : IntOp.cmpi .eq x y = 1#1 ↔ x = y := by
  have one : ∀ q : Bool, BitVec.ofBool q = 1#1 ↔ q = true := by decide
  unfold IntOp.cmpi
  rw [one]
  exact beq_iff_eq

/-- One band's test of one position, in plain numbers. -/
theorem band_test (p : Fin 512) (x y : BitVec 32) (hx : x.toNat < 2 ^ 31) (hy : y.toNat < 2 ^ 31) :
    IntOp.andi (IntOp.cmpi .sge (IntOp.addi (BitVec.ofNat 32 p.val) 256#32) x)
        (IntOp.cmpi .slt (IntOp.addi (BitVec.ofNat 32 p.val) 256#32) y) = 1#1
      ↔ x.toNat ≤ p.val + 256 ∧ p.val + 256 < y.toNat := by
  have one : ∀ q : Bool, BitVec.ofBool q = 1#1 ↔ q = true := by decide
  rw [bit_and]
  unfold IntOp.cmpi
  rw [one, one]
  show BitVec.sle _ _ = true ∧ BitVec.slt _ _ = true ↔ _
  rw [BitVec.sle_iff_toInt_le, BitVec.slt_iff_toInt_lt, pos_toInt,
    BitVec.toInt_eq_toNat_of_lt (x := x) (by omega), BitVec.toInt_eq_toNat_of_lt (x := y) (by omega)]
  omega

/-- The reference's bit of an axis is 1 exactly when the position lies in one of the image's bands. -/
theorem bandBit_iff (s e : Fin 192 → BitVec 32) (hs : ∀ k, (s k).toNat < 2 ^ 31) (he : ∀ k, (e k).toNat < 2 ^ 31)
    (b : Fin 32) (p : Fin 512) : bandBit s e b p = 1#1 ↔ InBand s e b p := by
  have at_ (k : Fin 6) : (S32x6.rowMajor (ix2 b k) : Fin 192) = (⟨b.val * 6 + k.val, by omega⟩ : Fin 192) :=
    Fin.ext (rowMajor_val2 (ix2 b k) 6 rfl)
  have test (k : Fin 6) := band_test p (s (S32x6.rowMajor (ix2 b k))) (e (S32x6.rowMajor (ix2 b k))) (hs _) (he _)
  unfold bandBit InBand
  rw [Routing.fold_ori]
  constructor
  · rintro ⟨k, -, h⟩
    have h' := (test k).1 h
    rw [at_ k] at h'
    exact ⟨k, h'⟩
  · rintro ⟨k, h⟩
    rw [← at_ k] at h
    exact ⟨k, Finset.mem_univ _, (test k).2 h⟩

/-- The reference's mask bit is 1 exactly when the mask keeps the row or the column. -/
theorem maskBit_iff (b : Fin 32) (h w : Fin 512) :
    maskBit b h w = 1#1 ↔ Kept lit0 lit1 b h ∨ Kept lit2 lit3 b w := by
  have at_ : (S32.rowMajor (ix1 b) : Fin 32) = b := Fin.ext (rowMajor_val1 (ix1 b))
  have small := bounds_small
  unfold maskBit Kept
  generalize lit0 = l0, lit1 = l1, lit2 = l2, lit3 = l3, lit4 = l4 at small ⊢
  rw [bit_or, bit_or, bandBit_iff _ _ (fun k => (small k).1.1) (fun k => (small k).1.2),
    bandBit_iff _ _ (fun k => (small k).2.1) (fun k => (small k).2.2), word_eq]
  rw [at_]
  tauto

end Cert.GridMask

end
-- ==== Proof.Factors.lean ====
module

public import proofs.«01_k».proof.Proof.Copies
public import proofs.«01_k».proof.Proof.RowTable
public import proofs.«01_k».proof.Proof.ColTable
public import proofs.«01_k».proof.Proof.KernelArray
public import proofs.«01_k».proof.Proof.ReferenceMask

@[expose] public section

set_option maxRecDepth 16384

/-! # The kernel's factor of a pixel is the reference's -/

noncomputable section

namespace Cert.GridMask

open Idealize.ShloMosaic

/-- The kernel's row factor is the byte that says whether the mask keeps the row. -/
theorem rowFactor_eq (b : Fin 32) (h : Fin 512) :
    rowFactor b h = keptByte ReferenceIdeal.lit0 ReferenceIdeal.lit1 b h := by
  have table := row_table ⟨b.val / 4, by omega⟩ ⟨b.val % 4, by omega⟩ h
  unfold rowFactor
  generalize KernelIdeal.lit0 = k, ReferenceIdeal.lit0 = s, ReferenceIdeal.lit1 = e at table ⊢
  have image : (⟨b.val / 4 * 4 + b.val % 4, by omega⟩ : Fin 32) = b := Fin.ext (by dsimp only; omega)
  have place : (KernelIdeal.S32x512.rowMajor (ix2 b h) : Fin 16384)
      = (⟨(b.val / 4 * 4 + b.val % 4) * 512 + h.val, by omega⟩ : Fin 16384) :=
    Fin.ext ((rowMajor_val2 (ix2 b h) 512 rfl).trans (by show b.val * 512 + h.val = _; dsimp only; omega))
  exact (congrArg k place).trans (table.trans (congrArg (keptByte s e · h) image))

/-- Every copy of the kernel's column factors agrees with the first one. -/
theorem colFactor_first (b : Fin 32) (r : Fin 8) (w : Fin 512) :
    colFactor b r w = KernelIdeal.lit1t (b.val * 4096 + w.val) := by
  have place : (KernelIdeal.S32x8x512.rowMajor (ix3 b r w)).val = (b.val * 8 + r.val) * 512 + w.val :=
    (rowMajor_val3 (ix3 b r w) 4096 512 rfl rfl).trans (by show b.val * 4096 + r.val * 512 + w.val = _; omega)
  have copy := lit1t_copy (b.val / 4) (b.val % 4 * 32 + r.val * 4 + w.val / 128) (w.val % 128)
    ((b.val * 8 + r.val) * 512 + w.val) (b.val * 4096 + w.val) (by omega) (by omega) (by omega) (by omega)
    (by omega) (by omega) (by omega) (by omega)
  unfold colFactor
  show KernelIdeal.lit1t (KernelIdeal.S32x8x512.rowMajor (ix3 b r w)).val = _
  generalize KernelIdeal.lit1t = k at copy ⊢
  rw [place, copy]

/-- The kernel's column factor, in any copy, is the byte that says whether the mask keeps the column. -/
theorem colFactor_eq (b : Fin 32) (r : Fin 8) (w : Fin 512) :
    colFactor b r w = keptByte ReferenceIdeal.lit2 ReferenceIdeal.lit3 b w := by
  have table : KernelIdeal.lit1t ((b.val / 4 * 4 + b.val % 4) * 4096 + w.val) = _ :=
    col_table ⟨b.val / 4, by omega⟩ ⟨b.val % 4, by omega⟩ w
  rw [colFactor_first]
  generalize KernelIdeal.lit1t = k, ReferenceIdeal.lit2 = s, ReferenceIdeal.lit3 = e at table ⊢
  have image : (⟨b.val / 4 * 4 + b.val % 4, by omega⟩ : Fin 32) = b := Fin.ext (by dsimp only; omega)
  have place : b.val * 4096 + w.val = (b.val / 4 * 4 + b.val % 4) * 4096 + w.val := by omega
  exact (congrArg k place).trans (table.trans (congrArg (keptByte s e · w) image))

/-- The number the kernel multiplies a pixel by is the number the reference multiplies it by. -/
theorem factor_eq (b : Fin 32) (r : Fin 8) (h w : Fin 512) :
    FloatOps.sitofp (F := Ideal) .f32 (IntOp.ori (rowFactor b h) (colFactor b r w))
      = FloatOps.uitofp .f32 (maskBit b h w) := by
  have bit : ∀ c : BitVec 1, c = 1#1 ∨ c = 0#1 := by decide
  have kept := maskBit_iff b h w
  rw [rowFactor_eq, colFactor_eq]
  generalize maskBit b h w = c at kept ⊢
  generalize ReferenceIdeal.lit0 = s, ReferenceIdeal.lit1 = e, ReferenceIdeal.lit2 = s', ReferenceIdeal.lit3 = e'
    at kept ⊢
  have one : (((1#8 : BitVec 8).toInt : ℝ) : EReal) = (((1#1 : BitVec 1).toNat : ℝ) : EReal) := by norm_num
  have zero : (((0#8 : BitVec 8).toInt : ℝ) : EReal) = (((0#1 : BitVec 1).toNat : ℝ) : EReal) := by norm_num
  unfold keptByte
  by_cases hr : Kept s e b h <;> by_cases hc : Kept s' e' b w <;> rcases bit c with rfl | rfl <;>
    first
      | (exfalso; simp [hr, hc] at kept; done)
      | (rw [if_pos hr, if_pos hc]; exact one)
      | (rw [if_pos hr, if_neg hc]; exact one)
      | (rw [if_neg hr, if_pos hc]; exact one)
      | (rw [if_neg hr, if_neg hc]; exact zero)

end Cert.GridMask

end
-- ==== Proof.lean ====
module

public import proofs.«01_k».proof.Defs
public import proofs.«01_k».proof.Proof.Gen.Kernel.Frame
public import proofs.«01_k».proof.Proof.KernelValue
public import proofs.«01_k».proof.Proof.Factors
public import Idealize.ShloMosaic.Lib.Quiescent

@[expose] public section

noncomputable section

namespace Cert.Proof

open Idealize.ShloMosaic Idealize.SL.Sem Cert.GridMask

/-- Every run of the reference's program ends, leaves its arguments unchanged and every semaphore counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel and the reference return the same images: at every pixel both multiply the same number by
    the same factor. -/
theorem same_result : Cert.algebraic_KernelIdeal_ReferenceIdeal := by
  intro m ρ m' ρ' _ same
  refine ⟨fun c j => planes m c (ix4 (j 0) (j 3) (j 1) (j 2)),
    (θ_run Cert.KernelIdeal.defs _ _).mono (fun r h c => ⟨funext fun j => ?_, (h c).2⟩) (kernel_run m ρ),
    (θ_run Cert.ReferenceIdeal.defs _ _).mono (fun r h c => ⟨funext fun j => ?_, (h c).2⟩) (reference_run m' ρ')⟩
  · idx_vars j
    exact (h c).1 _ _ _ _
  · idx_vars j
    refine ((h c).1 _ _ _ _).trans ?_
    rw [same c, ← factor_eq j0 ⟨j1.val % 8, Nat.mod_lt _ (by decide)⟩ j1 j2]
    rfl

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial,
    same_result⟩

end Cert.Proof

end
